-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nonneg [hPre_finite_nonneg : Cert.Pre_finite_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nonneg [hPre_finite_nonneg : Cert.Pre_finite_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_nonneg [hKernelIdeal : Cert.KernelIdeal.Facts] [hPre_finite_nonneg : Cert.Pre_finite_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_nonneg [hReferenceIdeal : Cert.ReferenceIdeal.Facts] [hPre_finite_nonneg : Cert.Pre_finite_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_nonneg [hKernelIdeal : Cert.KernelIdeal.Facts] [hReferenceIdeal : Cert.ReferenceIdeal.Facts] [hPre_finite_nonneg : Cert.Pre_finite_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v355) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_nonneg : Cert.Pre_finite_nonneg.Facts),
    quiescent_Kernel (hKernel := hKernel)
    ∧ quiescent_KernelIdeal (hKernelIdeal := hKernelIdeal)
    ∧ quiescent_KernelIdeal_pre_finite_nonneg (hKernelIdeal := hKernelIdeal) (hPre_finite_nonneg := hPre_finite_nonneg)
    ∧ quiescent_ReferenceIdeal (hReferenceIdeal := hReferenceIdeal)
    ∧ quiescent_ReferenceIdeal_pre_finite_nonneg (hReferenceIdeal := hReferenceIdeal) (hPre_finite_nonneg := hPre_finite_nonneg)
    ∧ preserves_Kernel_KernelIdeal
    ∧ algebraic_KernelIdeal_ReferenceIdeal_pre_finite_nonneg (hKernelIdeal := hKernelIdeal) (hReferenceIdeal := hReferenceIdeal) (hPre_finite_nonneg := hPre_finite_nonneg)
-- ==== Pre_finite_nonneg.lean ====
abbrev S32x4096 : Shape := ⟨2, ![32, 4096]⟩
abbrev S4096x4096 : Shape := ⟨2, ![4096, 4096]⟩
abbrev S8x4096x1 : Shape := ⟨3, ![8, 4096, 1]⟩
abbrev S8x4096x512 : Shape := ⟨3, ![8, 4096, 512]⟩
abbrev S8x512x1 : Shape := ⟨3, ![8, 512, 1]⟩
abbrev S32 : Shape := ⟨1, ![32]⟩
abbrev S_ : Shape := ⟨0, ![]⟩

class Facts : Prop where
  bcast_S_S32x4096 : S_.BroadcastsInDim S32x4096 (![] : Fin 0 → Fin S32x4096.rank)
  bcast_S_S8x4096x1 : S_.BroadcastsInDim S8x4096x1 (![] : Fin 0 → Fin S8x4096x1.rank)
  bcast_S_S8x4096x512 : S_.BroadcastsInDim S8x4096x512 (![] : Fin 0 → Fin S8x4096x512.rank)

variable [Facts]

def fn {F : FTy → Type} [FloatOps F] (main_arg0 : FVec F S32x4096 .f32) (main_arg1 : FVec F S4096x4096 .f32) (main_arg2 : FVec F S8x4096x1 .f32) (main_arg3 : IVec S8x4096x512 32) (main_arg4 : IVec S8x512x1 32) (main_arg5 : IVec S32 32) : IVec S32x4096 1 × IVec S8x4096x1 1 × IVec S8x4096x512 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_v3 : FVec F S8x4096x1 .f32 := Host.absf main_arg2
  let main_cst_0 : FVec F S_ .f32 := constant S_ .f32 0x7F800000#32
  let main_v4 : FVec F S8x4096x1 .f32 := broadcastInDim S8x4096x1 ![] bcast_S_S8x4096x1 main_cst_0
  let main_v5 : IVec S8x4096x1 1 := cmpf .olt main_v3 main_v4
  let main_c : IVec S_ 32 := constantI S_ 32 0#32
  let main_v6 : IVec S8x4096x512 32 := broadcastInDim S8x4096x512 ![] bcast_S_S8x4096x512 main_c
  let main_v7 : IVec S8x4096x512 1 := cmpi .sge main_arg3 main_v6
  (main_v2, main_v5, main_v7)
-- ==== Kernel.lean ====
abbrev S32x4096 : Shape := ⟨2, ![32, 4096]⟩
abbrev S4096x4096 : Shape := ⟨2, ![4096, 4096]⟩
abbrev S8x4096x1 : Shape := ⟨3, ![8, 4096, 1]⟩
abbrev S8x4096x512 : Shape := ⟨3, ![8, 4096, 512]⟩
abbrev S8x512x1 : Shape := ⟨3, ![8, 512, 1]⟩
abbrev S32 : Shape := ⟨1, ![32]⟩
abbrev S32x512x8 : Shape := ⟨3, ![32, 512, 8]⟩
abbrev S32x8x512 : Shape := ⟨3, ![32, 8, 512]⟩
abbrev S32x1 : Shape := ⟨2, ![32, 1]⟩
abbrev S8x512 : Shape := ⟨2, ![8, 512]⟩
abbrev S8 : Shape := ⟨1, ![8]⟩
abbrev S_ : Shape := ⟨0, ![]⟩
abbrev S1x1x8 : Shape := ⟨3, ![1, 1, 8]⟩
abbrev S8x512x8 : Shape := ⟨3, ![8, 512, 8]⟩
abbrev S8x1x4096 : Shape := ⟨3, ![8, 1, 4096]⟩
abbrev S1x8 : Shape := ⟨2, ![1, 8]⟩
abbrev S32x8 : Shape := ⟨2, ![32, 8]⟩
abbrev S1x32x8 : Shape := ⟨3, ![1, 32, 8]⟩
abbrev S512x4096 : Shape := ⟨2, ![512, 4096]⟩
abbrev S8x512x512 : Shape := ⟨3, ![8, 512, 512]⟩
abbrev S8x1x512 : Shape := ⟨3, ![8, 1, 512]⟩
abbrev S32x512 : Shape := ⟨2, ![32, 512]⟩
abbrev S1x512x512 : Shape := ⟨3, ![1, 512, 512]⟩
abbrev S512x512 : Shape := ⟨2, ![512, 512]⟩
abbrev S1x32x1 : Shape := ⟨3, ![1, 32, 1]⟩
abbrev S1x1x512 : Shape := ⟨3, ![1, 1, 512]⟩
abbrev S1x512 : Shape := ⟨2, ![1, 512]⟩

abbrev nBuf : Space → Nat
  | .hbm => 43
  | .vmem => 14
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S8x4096x1, .f32⟩
  | .hbm, ⟨3, _⟩ => ⟨S8x4096x512, .i32⟩
  | .hbm, ⟨4, _⟩ => ⟨S8x512x1, .i32⟩
  | .hbm, ⟨5, _⟩ => ⟨S32, .i32⟩
  | .hbm, ⟨6, _⟩ => ⟨S32x4096, .bf16⟩
  | .hbm, ⟨7, _⟩ => ⟨S32x512x8, .f32⟩
  | .hbm, ⟨8, _⟩ => ⟨S32x8x512, .f32⟩
  | .hbm, ⟨9, _⟩ => ⟨S32x4096, .f32⟩
  | .hbm, ⟨10, _⟩ => ⟨S32x4096, .bf16⟩
  | .hbm, ⟨11, _⟩ => ⟨S32x1, .i32⟩
  | .hbm, ⟨12, _⟩ => ⟨S8x512, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8x512x1, .i32⟩
  | .hbm, ⟨18, _⟩ => ⟨S1x1x8, .i32⟩
  | .hbm, ⟨19, _⟩ => ⟨S8x512x8, .i32⟩
  | .hbm, ⟨20, _⟩ => ⟨S8x512x8, .i32⟩
  | .hbm, ⟨21, _⟩ => ⟨S8x512x8, .i32⟩
  | .hbm, ⟨22, _⟩ => ⟨S_, .i32⟩
  | .hbm, ⟨23, _⟩ => ⟨S8x512x8, .i32⟩
  | .hbm, ⟨24, _⟩ => ⟨S8x512x8, .i32⟩
  | .hbm, ⟨25, _⟩ => ⟨S8x512x8, .f32⟩
  | .hbm, ⟨26, _⟩ => ⟨S8x1x4096, .f32⟩
  | .hbm, ⟨27, _⟩ => ⟨S8x1x4096, .f32⟩
  | .hbm, ⟨28, _⟩ => ⟨S32x4096, .f32⟩
  | .hbm, ⟨29, _⟩ => ⟨S_, .f32⟩
  | .hbm, ⟨30, _⟩ => ⟨S32, .f32⟩
  | .hbm, ⟨31, _⟩ => ⟨S32x1, .i32⟩
  | .hbm, ⟨32, _⟩ => ⟨S8, .i32⟩
  | .hbm, ⟨33, _⟩ => ⟨S1x8, .i32⟩
  | .hbm, ⟨34, _⟩ => ⟨S32x8, .i32⟩
  | .hbm, ⟨35, _⟩ => ⟨S32x8, .i32⟩
  | .hbm, ⟨36, _⟩ => ⟨S32x8, .i1⟩
  | .hbm, ⟨37, _⟩ => ⟨S32x1, .f32⟩
  | .hbm, ⟨38, _⟩ => ⟨S32x8, .f32⟩
  | .hbm, ⟨39, _⟩ => ⟨S32x8, .f32⟩
  | .hbm, ⟨40, _⟩ => ⟨S32x8, .f32⟩
  | .hbm, ⟨41, _⟩ => ⟨S1x32x8, .f32⟩
  | .hbm, ⟨42, _⟩ => ⟨S32x4096, .f32⟩
  | .local _ .vmem, ⟨0, _⟩ => ⟨S32x4096, .bf16⟩
  | .local _ .vmem, ⟨1, _⟩ => ⟨S32x4096, .bf16⟩
  | .local _ .vmem, ⟨2, _⟩ => ⟨S32x1, .i32⟩
  | .local _ .vmem, ⟨3, _⟩ => ⟨S512x4096, .f32⟩
  | .local _ .vmem, ⟨4, _⟩ => ⟨S512x4096, .f32⟩
  | .local _ .vmem, ⟨5, _⟩ => ⟨S8x512x512, .i32⟩
  | .local _ .vmem, ⟨6, _⟩ => ⟨S8x512x512, .i32⟩
  | .local _ .vmem, ⟨7, _⟩ => ⟨S1x32x8, .f32⟩
  | .local _ .vmem, ⟨8, _⟩ => ⟨S8x1x512, .f32⟩
  | .local _ .vmem, ⟨9, _⟩ => ⟨S8x1x512, .f32⟩
  | .local _ .vmem, ⟨10, _⟩ => ⟨S8x1x512, .f32⟩
  | .local _ .vmem, ⟨11, _⟩ => ⟨S8x1x512, .f32⟩
  | .local _ .vmem, ⟨12, _⟩ => ⟨S32x512, .f32⟩
  | .local _ .vmem, ⟨13, _⟩ => ⟨S32x512, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x4096 : Shape := ⟨2, ![32, 4096]⟩
abbrev S4096x4096 : Shape := ⟨2, ![4096, 4096]⟩
abbrev S8x4096x1 : Shape := ⟨3, ![8, 4096, 1]⟩
abbrev S8x4096x512 : Shape := ⟨3, ![8, 4096, 512]⟩
abbrev S8x512x1 : Shape := ⟨3, ![8, 512, 1]⟩
abbrev S32 : Shape := ⟨1, ![32]⟩
abbrev S_ : Shape := ⟨0, ![]⟩
abbrev S1x4096x512 : Shape := ⟨3, ![1, 4096, 512]⟩
abbrev S4096x512 : Shape := ⟨2, ![4096, 512]⟩
abbrev S8 : Shape := ⟨1, ![8]⟩
abbrev S4096x512x1 : Shape := ⟨3, ![4096, 512, 1]⟩
abbrev S1x1x8 : Shape := ⟨3, ![1, 1, 8]⟩
abbrev S4096x512x8 : Shape := ⟨3, ![4096, 512, 8]⟩
abbrev S1x512x1 : Shape := ⟨3, ![1, 512, 1]⟩
abbrev S512x1 : Shape := ⟨2, ![512, 1]⟩
abbrev S512x1x1 : Shape := ⟨3, ![512, 1, 1]⟩
abbrev S512x1x8 : Shape := ⟨3, ![512, 1, 8]⟩
abbrev S512x8 : Shape := ⟨2, ![512, 8]⟩
abbrev S4096x1 : Shape := ⟨2, ![4096, 1]⟩
abbrev S1x4096x1 : Shape := ⟨3, ![1, 4096, 1]⟩
abbrev S32x1 : Shape := ⟨2, ![32, 1]⟩

abbrev nBuf : Space → Nat
  | .hbm => 403
  | .vmem => 0
  | .smem => 0
  | _ => 0

abbrev hbmTy0_0 (i : Nat) : BufTy := match i % 128 with
  | 0 => ⟨S32x4096, .f32⟩
  | 1 => ⟨S4096x4096, .f32⟩
  | 2 => ⟨S8x4096x1, .f32⟩
  | 3 => ⟨S8x4096x512, .i32⟩
  | 4 => ⟨S8x512x1, .i32⟩
  | 5 => ⟨S32, .i32⟩
  | 6 => ⟨S4096x4096, .f32⟩
  | 7 => ⟨S32x4096, .f32⟩
  | 8 => ⟨S_, .f32⟩
  | 9 => ⟨S32x4096, .f32⟩
  | 10 => ⟨S1x4096x512, .i32⟩
  | 11 => ⟨S4096x512, .i32⟩
  | 12 => ⟨S8, .i32⟩
  | 13 => ⟨S_, .i32⟩
  | 14 => ⟨S8, .i32⟩
  | 15 => ⟨S8, .i32⟩
  | 16 => ⟨S4096x512x1, .i32⟩
  | 17 => ⟨S1x1x8, .i32⟩
  | 18 => ⟨S4096x512x8, .i32⟩
  | 19 => ⟨S4096x512x8, .i32⟩
  | 20 => ⟨S4096x512x8, .i32⟩
  | 21 => ⟨S_, .i32⟩
  | 22 => ⟨S4096x512x8, .i32⟩
  | 23 => ⟨S4096x512x8, .i32⟩
  | 24 => ⟨S4096x4096, .i32⟩
  | 25 => ⟨S4096x4096, .f32⟩
  | 26 => ⟨S1x512x1, .i32⟩
  | 27 => ⟨S512x1, .i32⟩
  | 28 => ⟨S8, .i32⟩
  | 29 => ⟨S_, .i32⟩
  | 30 => ⟨S8, .i32⟩
  | 31 => ⟨S8, .i32⟩
  | 32 => ⟨S512x1x1, .i32⟩
  | 33 => ⟨S1x1x8, .i32⟩
  | 34 => ⟨S512x1x8, .i32⟩
  | 35 => ⟨S512x1x8, .i32⟩
  | 36 => ⟨S512x1x8, .i32⟩
  | 37 => ⟨S_, .i32⟩
  | 38 => ⟨S512x1x8, .i32⟩
  | 39 => ⟨S512x1x8, .i32⟩
  | 40 => ⟨S512x8, .i32⟩
  | 41 => ⟨S4096x1, .i32⟩
  | 42 => ⟨S4096x1, .f32⟩
  | 43 => ⟨S4096x4096, .f32⟩
  | 44 => ⟨S4096x4096, .f32⟩
  | 45 => ⟨S1x4096x1, .f32⟩
  | 46 => ⟨S4096x1, .f32⟩
  | 47 => ⟨S4096x4096, .f32⟩
  | 48 => ⟨S4096x4096, .f32⟩
  | 49 => ⟨S_, .i32⟩
  | 50 => ⟨S32, .i32⟩
  | 51 => ⟨S32, .i1⟩
  | 52 => ⟨S32, .f32⟩
  | 53 => ⟨S32x1, .f32⟩
  | 54 => ⟨S32x4096, .f32⟩
  | 55 => ⟨S32x4096, .f32⟩
  | 56 => ⟨S4096x4096, .f32⟩
  | 57 => ⟨S32x4096, .f32⟩
  | 58 => ⟨S32x4096, .f32⟩
  | 59 => ⟨S1x4096x512, .i32⟩
  | 60 => ⟨S4096x512, .i32⟩
  | 61 => ⟨S8, .i32⟩
  | 62 => ⟨S_, .i32⟩
  | 63 => ⟨S8, .i32⟩
  | 64 => ⟨S8, .i32⟩
  | 65 => ⟨S4096x512x1, .i32⟩
  | 66 => ⟨S1x1x8, .i32⟩
  | 67 => ⟨S4096x512x8, .i32⟩
  | 68 => ⟨S4096x512x8, .i32⟩
  | 69 => ⟨S4096x512x8, .i32⟩
  | 70 => ⟨S_, .i32⟩
  | 71 => ⟨S4096x512x8, .i32⟩
  | 72 => ⟨S4096x512x8, .i32⟩
  | 73 => ⟨S4096x4096, .i32⟩
  | 74 => ⟨S4096x4096, .f32⟩
  | 75 => ⟨S1x512x1, .i32⟩
  | 76 => ⟨S512x1, .i32⟩
  | 77 => ⟨S8, .i32⟩
  | 78 => ⟨S_, .i32⟩
  | 79 => ⟨S8, .i32⟩
  | 80 => ⟨S8, .i32⟩
  | 81 => ⟨S512x1x1, .i32⟩
  | 82 => ⟨S1x1x8, .i32⟩
  | 83 => ⟨S512x1x8, .i32⟩
  | 84 => ⟨S512x1x8, .i32⟩
  | 85 => ⟨S512x1x8, .i32⟩
  | 86 => ⟨S_, .i32⟩
  | 87 => ⟨S512x1x8, .i32⟩
  | 88 => ⟨S512x1x8, .i32⟩
  | 89 => ⟨S512x8, .i32⟩
  | 90 => ⟨S4096x1, .i32⟩
  | 91 => ⟨S4096x1, .f32⟩
  | 92 => ⟨S4096x4096, .f32⟩
  | 93 => ⟨S4096x4096, .f32⟩
  | 94 => ⟨S1x4096x1, .f32⟩
  | 95 => ⟨S4096x1, .f32⟩
  | 96 => ⟨S4096x4096, .f32⟩
  | 97 => ⟨S4096x4096, .f32⟩
  | 98 => ⟨S_, .i32⟩
  | 99 => ⟨S32, .i32⟩
  | 100 => ⟨S32, .i1⟩
  | 101 => ⟨S32, .f32⟩
  | 102 => ⟨S32x1, .f32⟩
  | 103 => ⟨S32x4096, .f32⟩
  | 104 => ⟨S32x4096, .f32⟩
  | 105 => ⟨S4096x4096, .f32⟩
  | 106 => ⟨S32x4096, .f32⟩
  | 107 => ⟨S32x4096, .f32⟩
  | 108 => ⟨S1x4096x512, .i32⟩
  | 109 => ⟨S4096x512, .i32⟩
  | 110 => ⟨S8, .i32⟩
  | 111 => ⟨S_, .i32⟩
  | 112 => ⟨S8, .i32⟩
  | 113 => ⟨S8, .i32⟩
  | 114 => ⟨S4096x512x1, .i32⟩
  | 115 => ⟨S1x1x8, .i32⟩
  | 116 => ⟨S4096x512x8, .i32⟩
  | 117 => ⟨S4096x512x8, .i32⟩
  | 118 => ⟨S4096x512x8, .i32⟩
  | 119 => ⟨S_, .i32⟩
  | 120 => ⟨S4096x512x8, .i32⟩
  | 121 => ⟨S4096x512x8, .i32⟩
  | 122 => ⟨S4096x4096, .i32⟩
  | 123 => ⟨S4096x4096, .f32⟩
  | 124 => ⟨S1x512x1, .i32⟩
  | 125 => ⟨S512x1, .i32⟩
  | 126 => ⟨S8, .i32⟩
  | 127 => ⟨S_, .i32⟩
  | _ => ⟨S32x4096, .f32⟩

abbrev hbmTy0_1 (i : Nat) : BufTy := match i % 128 with
  | 0 => ⟨S8, .i32⟩
  | 1 => ⟨S8, .i32⟩
  | 2 => ⟨S512x1x1, .i32⟩
  | 3 => ⟨S1x1x8, .i32⟩
  | 4 => ⟨S512x1x8, .i32⟩
  | 5 => ⟨S512x1x8, .i32⟩
  | 6 => ⟨S512x1x8, .i32⟩
  | 7 => ⟨S_, .i32⟩
  | 8 => ⟨S512x1x8, .i32⟩
  | 9 => ⟨S512x1x8, .i32⟩
  | 10 => ⟨S512x8, .i32⟩
  | 11 => ⟨S4096x1, .i32⟩
  | 12 => ⟨S4096x1, .f32⟩
  | 13 => ⟨S4096x4096, .f32⟩
  | 14 => ⟨S4096x4096, .f32⟩
  | 15 => ⟨S1x4096x1, .f32⟩
  | 16 => ⟨S4096x1, .f32⟩
  | 17 => ⟨S4096x4096, .f32⟩
  | 18 => ⟨S4096x4096, .f32⟩
  | 19 => ⟨S_, .i32⟩
  | 20 => ⟨S32, .i32⟩
  | 21 => ⟨S32, .i1⟩
  | 22 => ⟨S32, .f32⟩
  | 23 => ⟨S32x1, .f32⟩
  | 24 => ⟨S32x4096, .f32⟩
  | 25 => ⟨S32x4096, .f32⟩
  | 26 => ⟨S4096x4096, .f32⟩
  | 27 => ⟨S32x4096, .f32⟩
  | 28 => ⟨S32x4096, .f32⟩
  | 29 => ⟨S1x4096x512, .i32⟩
  | 30 => ⟨S4096x512, .i32⟩
  | 31 => ⟨S8, .i32⟩
  | 32 => ⟨S_, .i32⟩
  | 33 => ⟨S8, .i32⟩
  | 34 => ⟨S8, .i32⟩
  | 35 => ⟨S4096x512x1, .i32⟩
  | 36 => ⟨S1x1x8, .i32⟩
  | 37 => ⟨S4096x512x8, .i32⟩
  | 38 => ⟨S4096x512x8, .i32⟩
  | 39 => ⟨S4096x512x8, .i32⟩
  | 40 => ⟨S_, .i32⟩
  | 41 => ⟨S4096x512x8, .i32⟩
  | 42 => ⟨S4096x512x8, .i32⟩
  | 43 => ⟨S4096x4096, .i32⟩
  | 44 => ⟨S4096x4096, .f32⟩
  | 45 => ⟨S1x512x1, .i32⟩
  | 46 => ⟨S512x1, .i32⟩
  | 47 => ⟨S8, .i32⟩
  | 48 => ⟨S_, .i32⟩
  | 49 => ⟨S8, .i32⟩
  | 50 => ⟨S8, .i32⟩
  | 51 => ⟨S512x1x1, .i32⟩
  | 52 => ⟨S1x1x8, .i32⟩
  | 53 => ⟨S512x1x8, .i32⟩
  | 54 => ⟨S512x1x8, .i32⟩
  | 55 => ⟨S512x1x8, .i32⟩
  | 56 => ⟨S_, .i32⟩
  | 57 => ⟨S512x1x8, .i32⟩
  | 58 => ⟨S512x1x8, .i32⟩
  | 59 => ⟨S512x8, .i32⟩
  | 60 => ⟨S4096x1, .i32⟩
  | 61 => ⟨S4096x1, .f32⟩
  | 62 => ⟨S4096x4096, .f32⟩
  | 63 => ⟨S4096x4096, .f32⟩
  | 64 => ⟨S1x4096x1, .f32⟩
  | 65 => ⟨S4096x1, .f32⟩
  | 66 => ⟨S4096x4096, .f32⟩
  | 67 => ⟨S4096x4096, .f32⟩
  | 68 => ⟨S_, .i32⟩
  | 69 => ⟨S32, .i32⟩
  | 70 => ⟨S32, .i1⟩
  | 71 => ⟨S32, .f32⟩
  | 72 => ⟨S32x1, .f32⟩
  | 73 => ⟨S32x4096, .f32⟩
  | 74 => ⟨S32x4096, .f32⟩
  | 75 => ⟨S4096x4096, .f32⟩
  | 76 => ⟨S32x4096, .f32⟩
  | 77 => ⟨S32x4096, .f32⟩
  | 78 => ⟨S1x4096x512, .i32⟩
  | 79 => ⟨S4096x512, .i32⟩
  | 80 => ⟨S8, .i32⟩
  | 81 => ⟨S_, .i32⟩
  | 82 => ⟨S8, .i32⟩
  | 83 => ⟨S8, .i32⟩
  | 84 => ⟨S4096x512x1, .i32⟩
  | 85 => ⟨S1x1x8, .i32⟩
  | 86 => ⟨S4096x512x8, .i32⟩
  | 87 => ⟨S4096x512x8, .i32⟩
  | 88 => ⟨S4096x512x8, .i32⟩
  | 89 => ⟨S_, .i32⟩
  | 90 => ⟨S4096x512x8, .i32⟩
  | 91 => ⟨S4096x512x8, .i32⟩
  | 92 => ⟨S4096x4096, .i32⟩
  | 93 => ⟨S4096x4096, .f32⟩
  | 94 => ⟨S1x512x1, .i32⟩
  | 95 => ⟨S512x1, .i32⟩
  | 96 => ⟨S8, .i32⟩
  | 97 => ⟨S_, .i32⟩
  | 98 => ⟨S8, .i32⟩
  | 99 => ⟨S8, .i32⟩
  | 100 => ⟨S512x1x1, .i32⟩
  | 101 => ⟨S1x1x8, .i32⟩
  | 102 => ⟨S512x1x8, .i32⟩
  | 103 => ⟨S512x1x8, .i32⟩
  | 104 => ⟨S512x1x8, .i32⟩
  | 105 => ⟨S_, .i32⟩
  | 106 => ⟨S512x1x8, .i32⟩
  | 107 => ⟨S512x1x8, .i32⟩
  | 108 => ⟨S512x8, .i32⟩
  | 109 => ⟨S4096x1, .i32⟩
  | 110 => ⟨S4096x1, .f32⟩
  | 111 => ⟨S4096x4096, .f32⟩
  | 112 => ⟨S4096x4096, .f32⟩
  | 113 => ⟨S1x4096x1, .f32⟩
  | 114 => ⟨S4096x1, .f32⟩
  | 115 => ⟨S4096x4096, .f32⟩
  | 116 => ⟨S4096x4096, .f32⟩
  | 117 => ⟨S_, .i32⟩
  | 118 => ⟨S32, .i32⟩
  | 119 => ⟨S32, .i1⟩
  | 120 => ⟨S32, .f32⟩
  | 121 => ⟨S32x1, .f32⟩
  | 122 => ⟨S32x4096, .f32⟩
  | 123 => ⟨S32x4096, .f32⟩
  | 124 => ⟨S4096x4096, .f32⟩
  | 125 => ⟨S32x4096, .f32⟩
  | 126 => ⟨S32x4096, .f32⟩
  | 127 => ⟨S1x4096x512, .i32⟩
  | _ => ⟨S32x4096, .f32⟩

abbrev hbmTy0_2 (i : Nat) : BufTy := match i % 128 with
  | 0 => ⟨S4096x512, .i32⟩
  | 1 => ⟨S8, .i32⟩
  | 2 => ⟨S_, .i32⟩
  | 3 => ⟨S8, .i32⟩
  | 4 => ⟨S8, .i32⟩
  | 5 => ⟨S4096x512x1, .i32⟩
  | 6 => ⟨S1x1x8, .i32⟩
  | 7 => ⟨S4096x512x8, .i32⟩
  | 8 => ⟨S4096x512x8, .i32⟩
  | 9 => ⟨S4096x512x8, .i32⟩
  | 10 => ⟨S_, .i32⟩
  | 11 => ⟨S4096x512x8, .i32⟩
  | 12 => ⟨S4096x512x8, .i32⟩
  | 13 => ⟨S4096x4096, .i32⟩
  | 14 => ⟨S4096x4096, .f32⟩
  | 15 => ⟨S1x512x1, .i32⟩
  | 16 => ⟨S512x1, .i32⟩
  | 17 => ⟨S8, .i32⟩
  | 18 => ⟨S_, .i32⟩
  | 19 => ⟨S8, .i32⟩
  | 20 => ⟨S8, .i32⟩
  | 21 => ⟨S512x1x1, .i32⟩
  | 22 => ⟨S1x1x8, .i32⟩
  | 23 => ⟨S512x1x8, .i32⟩
  | 24 => ⟨S512x1x8, .i32⟩
  | 25 => ⟨S512x1x8, .i32⟩
  | 26 => ⟨S_, .i32⟩
  | 27 => ⟨S512x1x8, .i32⟩
  | 28 => ⟨S512x1x8, .i32⟩
  | 29 => ⟨S512x8, .i32⟩
  | 30 => ⟨S4096x1, .i32⟩
  | 31 => ⟨S4096x1, .f32⟩
  | 32 => ⟨S4096x4096, .f32⟩
  | 33 => ⟨S4096x4096, .f32⟩
  | 34 => ⟨S1x4096x1, .f32⟩
  | 35 => ⟨S4096x1, .f32⟩
  | 36 => ⟨S4096x4096, .f32⟩
  | 37 => ⟨S4096x4096, .f32⟩
  | 38 => ⟨S_, .i32⟩
  | 39 => ⟨S32, .i32⟩
  | 40 => ⟨S32, .i1⟩
  | 41 => ⟨S32, .f32⟩
  | 42 => ⟨S32x1, .f32⟩
  | 43 => ⟨S32x4096, .f32⟩
  | 44 => ⟨S32x4096, .f32⟩
  | 45 => ⟨S4096x4096, .f32⟩
  | 46 => ⟨S32x4096, .f32⟩
  | 47 => ⟨S32x4096, .f32⟩
  | 48 => ⟨S1x4096x512, .i32⟩
  | 49 => ⟨S4096x512, .i32⟩
  | 50 => ⟨S8, .i32⟩
  | 51 => ⟨S_, .i32⟩
  | 52 => ⟨S8, .i32⟩
  | 53 => ⟨S8, .i32⟩
  | 54 => ⟨S4096x512x1, .i32⟩
  | 55 => ⟨S1x1x8, .i32⟩
  | 56 => ⟨S4096x512x8, .i32⟩
  | 57 => ⟨S4096x512x8, .i32⟩
  | 58 => ⟨S4096x512x8, .i32⟩
  | 59 => ⟨S_, .i32⟩
  | 60 => ⟨S4096x512x8, .i32⟩
  | 61 => ⟨S4096x512x8, .i32⟩
  | 62 => ⟨S4096x4096, .i32⟩
  | 63 => ⟨S4096x4096, .f32⟩
  | 64 => ⟨S1x512x1, .i32⟩
  | 65 => ⟨S512x1, .i32⟩
  | 66 => ⟨S8, .i32⟩
  | 67 => ⟨S_, .i32⟩
  | 68 => ⟨S8, .i32⟩
  | 69 => ⟨S8, .i32⟩
  | 70 => ⟨S512x1x1, .i32⟩
  | 71 => ⟨S1x1x8, .i32⟩
  | 72 => ⟨S512x1x8, .i32⟩
  | 73 => ⟨S512x1x8, .i32⟩
  | 74 => ⟨S512x1x8, .i32⟩
  | 75 => ⟨S_, .i32⟩
  | 76 => ⟨S512x1x8, .i32⟩
  | 77 => ⟨S512x1x8, .i32⟩
  | 78 => ⟨S512x8, .i32⟩
  | 79 => ⟨S4096x1, .i32⟩
  | 80 => ⟨S4096x1, .f32⟩
  | 81 => ⟨S4096x4096, .f32⟩
  | 82 => ⟨S4096x4096, .f32⟩
  | 83 => ⟨S1x4096x1, .f32⟩
  | 84 => ⟨S4096x1, .f32⟩
  | 85 => ⟨S4096x4096, .f32⟩
  | 86 => ⟨S4096x4096, .f32⟩
  | 87 => ⟨S_, .i32⟩
  | 88 => ⟨S32, .i32⟩
  | 89 => ⟨S32, .i1⟩
  | 90 => ⟨S32, .f32⟩
  | 91 => ⟨S32x1, .f32⟩
  | 92 => ⟨S32x4096, .f32⟩
  | 93 => ⟨S32x4096, .f32⟩
  | 94 => ⟨S4096x4096, .f32⟩
  | 95 => ⟨S32x4096, .f32⟩
  | 96 => ⟨S32x4096, .f32⟩
  | 97 => ⟨S1x4096x512, .i32⟩
  | 98 => ⟨S4096x512, .i32⟩
  | 99 => ⟨S8, .i32⟩
  | 100 => ⟨S_, .i32⟩
  | 101 => ⟨S8, .i32⟩
  | 102 => ⟨S8, .i32⟩
  | 103 => ⟨S4096x512x1, .i32⟩
  | 104 => ⟨S1x1x8, .i32⟩
  | 105 => ⟨S4096x512x8, .i32⟩
  | 106 => ⟨S4096x512x8, .i32⟩
  | 107 => ⟨S4096x512x8, .i32⟩
  | 108 => ⟨S_, .i32⟩
  | 109 => ⟨S4096x512x8, .i32⟩
  | 110 => ⟨S4096x512x8, .i32⟩
  | 111 => ⟨S4096x4096, .i32⟩
  | 112 => ⟨S4096x4096, .f32⟩
  | 113 => ⟨S1x512x1, .i32⟩
  | 114 => ⟨S512x1, .i32⟩
  | 115 => ⟨S8, .i32⟩
  | 116 => ⟨S_, .i32⟩
  | 117 => ⟨S8, .i32⟩
  | 118 => ⟨S8, .i32⟩
  | 119 => ⟨S512x1x1, .i32⟩
  | 120 => ⟨S1x1x8, .i32⟩
  | 121 => ⟨S512x1x8, .i32⟩
  | 122 => ⟨S512x1x8, .i32⟩
  | 123 => ⟨S512x1x8, .i32⟩
  | 124 => ⟨S_, .i32⟩
  | 125 => ⟨S512x1x8, .i32⟩
  | 126 => ⟨S512x1x8, .i32⟩
  | 127 => ⟨S512x8, .i32⟩
  | _ => ⟨S32x4096, .f32⟩

abbrev hbmTy0_3 (i : Nat) : BufTy := match i % 128 with
  | 0 => ⟨S4096x1, .i32⟩
  | 1 => ⟨S4096x1, .f32⟩
  | 2 => ⟨S4096x4096, .f32⟩
  | 3 => ⟨S4096x4096, .f32⟩
  | 4 => ⟨S1x4096x1, .f32⟩
  | 5 => ⟨S4096x1, .f32⟩
  | 6 => ⟨S4096x4096, .f32⟩
  | 7 => ⟨S4096x4096, .f32⟩
  | 8 => ⟨S_, .i32⟩
  | 9 => ⟨S32, .i32⟩
  | 10 => ⟨S32, .i1⟩
  | 11 => ⟨S32, .f32⟩
  | 12 => ⟨S32x1, .f32⟩
  | 13 => ⟨S32x4096, .f32⟩
  | 14 => ⟨S32x4096, .f32⟩
  | 15 => ⟨S4096x4096, .f32⟩
  | 16 => ⟨S32x4096, .f32⟩
  | 17 => ⟨S32x4096, .f32⟩
  | 18 => ⟨S32x4096, .f32⟩
  | _ => ⟨S32x4096, .f32⟩

abbrev hbmTy (i : Nat) : BufTy := match i / 128 with
  | 0 => hbmTy0_0 i
  | 1 => hbmTy0_1 i
  | 2 => hbmTy0_2 i
  | 3 => hbmTy0_3 i
  | _ => ⟨S32x4096, .f32⟩

abbrev bufTy : (tb : Table) → Fin (tcTables nBuf tb) → BufTy
  | .hbm, ⟨i, _⟩ => hbmTy i
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_4 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_5 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_c_6 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_c_7 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_c_8 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_c_9 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_c_10 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_c_11 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_c_12 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_c_13 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_c_14 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_c_15 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_c_16 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_c_17 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_c_18 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_c_19 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_c_20 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_c_21 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_c_22 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_c_23 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_c_24 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_c_25 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_c_26 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_c_27 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_c_28 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_c_29 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_c_30 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_c_31 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_c_32 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_c_33 : Ref sig .tc := ⟨.hbm, 343, rfl⟩
abbrev main_v302 : Ref sig .tc := ⟨.hbm, 344, rfl⟩
abbrev main_v303 : Ref sig .tc := ⟨.hbm, 345, rfl⟩
abbrev main_v304 : Ref sig .tc := ⟨.hbm, 346, rfl⟩
abbrev main_v305 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_c_34 : Ref sig .tc := ⟨.hbm, 356, rfl⟩
abbrev main_v314 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_c_35 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_c_36 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_c_37 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_c_38 : Ref sig .tc := ⟨.hbm, 392, rfl⟩
abbrev main_v346 : Ref sig .tc := ⟨.hbm, 393, rfl⟩
abbrev main_v347 : Ref sig .tc := ⟨.hbm, 394, rfl⟩
abbrev main_v348 : Ref sig .tc := ⟨.hbm, 395, rfl⟩
abbrev main_v349 : Ref sig .tc := ⟨.hbm, 396, rfl⟩
abbrev main_v350 : Ref sig .tc := ⟨.hbm, 397, rfl⟩
abbrev main_v351 : Ref sig .tc := ⟨.hbm, 398, rfl⟩
abbrev main_v352 : Ref sig .tc := ⟨.hbm, 399, rfl⟩
abbrev main_v353 : Ref sig .tc := ⟨.hbm, 400, rfl⟩
abbrev main_v354 : Ref sig .tc := ⟨.hbm, 401, rfl⟩
abbrev main_v355 : Ref sig .tc := ⟨.hbm, 402, rfl⟩

abbrev nD : Nat := 1
abbrev τ : Topo := Topo.v7x

variable {F : FTy → Type} [FloatOps F]
-- ==== Proof.Nibble.lean ====
/- The 4-bit fields of a 32-bit word: the one definition both programs are read to, and the forms in which
   they write it. -/
module

public import Idealize.ShloMosaic.Lib.Pointwise

@[expose] public section

noncomputable section

namespace Cert.Quant

open Idealize.ShloMosaic

/-- Field `n` of the packed word `w`: the four bits from bit `4 n` up. -/
def nibble (w : BitVec 32) (n : ℕ) : BitVec 32 := w.sshiftRight (4 * n) &&& 15#32

/-- A right shift by less than the word's length is the arithmetic shift, on either unit. -/
theorem shrsi_of_lt (u : ArithUnit) (w a : BitVec 32) (h : a.toNat < 32) :
    IntOp.shrsi u w a = w.sshiftRight a.toNat := if_pos h

/-- The field as written with a computed shift: shift right by `n * 4`, keep four bits. -/
theorem host_field (w : BitVec 32) (n : ℕ) (hn : n < 8) :
    IntOp.andi (IntOp.shrsi .host w (IntOp.muli (BitVec.ofNat 32 n) 4#32)) 15#32 = nibble w n := by
  have h : (IntOp.muli (BitVec.ofNat 32 n) 4#32).toNat = 4 * n := by
    show (BitVec.ofNat 32 n * 4#32).toNat = 4 * n
    rw [BitVec.toNat_mul, BitVec.toNat_ofNat, BitVec.toNat_ofNat]
    omega
  rw [shrsi_of_lt _ _ _ (by omega), h]
  rfl

/-- The lowest field needs no shift. -/
theorem low_field (w : BitVec 32) : IntOp.andi w 15#32 = nibble w 0 := by
  show w &&& 15#32 = w.sshiftRight 0 &&& 15#32
  rw [BitVec.sshiftRight_zero]

/-- A field as written with a constant shift `a = 4 n`: shift right by `a`, keep four bits. -/
theorem mid_field (w a : BitVec 32) (n : ℕ) (ha : a.toNat = 4 * n) (hn : n < 8) :
    IntOp.andi (IntOp.shrsi .vector w a) 15#32 = nibble w n := by
  rw [shrsi_of_lt _ _ _ (by omega), ha]
  rfl

/-- The highest field needs no mask when the word is not negative: the shift brings in zeros. -/
theorem high_field (w : BitVec 32) (h : 0 ≤ w.toInt) : IntOp.shrsi .vector w 28#32 = nibble w 7 := by
  have hm : w.msb = false := by
    rw [BitVec.msb_eq_toInt]
    exact decide_eq_false (by omega)
  rw [shrsi_of_lt _ _ _ (by decide)]
  show w.sshiftRight 28 = w.sshiftRight 28 &&& 15#32
  rw [BitVec.sshiftRight_eq_of_msb_false hm]
  apply BitVec.eq_of_toNat_eq
  rw [BitVec.toNat_and, BitVec.toNat_ushiftRight, Nat.shiftRight_eq_div_pow]
  show _ = _ &&& (2 ^ 4 - 1)
  rw [Nat.and_two_pow_sub_one_eq_mod, Nat.mod_eq_of_lt]
  have := w.isLt
  omega

end Cert.Quant

end
-- ==== Proof.Block.lean ====
/- What the kernel's body computes on one block: the plain product, and one expert after another added to it.
   Every expert is the same computation, so it is stated once. -/
module

public import proofs.«01_k».proof.Proof.Gen.KernelIdeal.Frame
public import proofs.«01_k».proof.Proof.Nibble
public import Idealize.ShloMosaic.Lib.Pipeline.ValueKit
public import Idealize.ShloMosaic.Lib.Pointwise
public import Idealize.ShloMosaic.Lib.Claim

@[expose] public section

set_option maxRecDepth 16384

noncomputable section

namespace Cert.Quant

open Cert.KernelIdeal Cert.KernelIdeal.Gen
open Idealize.ShloMosaic Idealize.ShloMosaic.TcCoe Idealize.SL.Sem

/-- Expert `e`'s addend on one block of output features: the tokens of that expert against the unpacked words `q`,
    less the zero points `z` times the tokens' sums `rs`, scaled by `s`. -/
def expertTerm (e : BitVec 32) (q : Vec Ideal S1x512x512 .i32) (idx : Vec Ideal S32x1 .i32)
    (xp : Vec Ideal S32x4096 .bf16) (rs : Vec Ideal S1x32x1 .f32) (z s : Vec Ideal S1x1x512 .f32) :
    FVec Ideal S32x512 .f32 :=
  mulf
    (subf
      (matmul dot_S32x4096_S512x4096_S32x512_1_1_0_0_n_n none
        (select
          (broadcastTo S32x4096
            (shapeCast S32x1 (cmpi .eq (shapeCast S32x1 idx shapeCasts_S32x1_S32x1) (broadcast S32x1 e))
              shapeCasts_S32x1_S32x1) broadcasts_S32x1_S32x4096)
          (shapeCast S32x4096 xp shapeCasts_S32x4096_S32x4096)
          (broadcast S32x4096 (Scalar.ofBits .bf16 0x0000#16)))
        (k0_pay3 q) (constant S32x512 .f32 0x00000000#32))
      (mulf (broadcastTo S32x512 (shapeCast S32x1 rs shapeCasts_S1x32x1_S32x1) broadcasts_S32x1_S32x512)
        (broadcastTo S32x512 (shapeCast S1x512 z shapeCasts_S1x1x512_S1x512) broadcasts_S1x512_S32x512)))
    (broadcastTo S32x512 (shapeCast S1x512 s shapeCasts_S1x1x512_S1x512) broadcasts_S1x512_S32x512)

/-- What the body leaves in the output block: the plain product, the eight experts' addends added in turn. -/
theorem out_eq (x0 x1 : Vec Ideal S32x4096 .bf16) (x2 : Vec Ideal S32x1 .i32) (x3 : Vec Ideal S512x4096 .f32)
    (x4 : Vec Ideal S8x512x512 .i32) (x5 : Vec Ideal S1x32x8 .f32) (x6 x7 : Vec Ideal S8x1x512 .f32) :
    out0_8 x0 x1 x2 x3 x4 x5 x6 x7 = View.canon [⟨r0_27,
      addf (addf (addf (addf (addf (addf (addf (addf (k0_pay2 (View.ld x3 r0_0) (View.ld x0 r0_1))
        (expertTerm 0#32 (View.ld x4 r0_2) (View.ld x2 r0_3) (View.ld x1 r0_1) (View.ld x5 r0_4) (View.ld x6 r0_5) (View.ld x7 r0_5)))
        (expertTerm 1#32 (View.ld x4 r0_6) (View.ld x2 r0_3) (View.ld x1 r0_1) (View.ld x5 r0_7) (View.ld x6 r0_8) (View.ld x7 r0_8)))
        (expertTerm 2#32 (View.ld x4 r0_9) (View.ld x2 r0_3) (View.ld x1 r0_1) (View.ld x5 r0_10) (View.ld x6 r0_11) (View.ld x7 r0_11)))
        (expertTerm 3#32 (View.ld x4 r0_12) (View.ld x2 r0_3) (View.ld x1 r0_1) (View.ld x5 r0_13) (View.ld x6 r0_14) (View.ld x7 r0_14)))
        (expertTerm 4#32 (View.ld x4 r0_15) (View.ld x2 r0_3) (View.ld x1 r0_1) (View.ld x5 r0_16) (View.ld x6 r0_17) (View.ld x7 r0_17)))
        (expertTerm 5#32 (View.ld x4 r0_18) (View.ld x2 r0_3) (View.ld x1 r0_1) (View.ld x5 r0_19) (View.ld x6 r0_20) (View.ld x7 r0_20)))
        (expertTerm 6#32 (View.ld x4 r0_21) (View.ld x2 r0_3) (View.ld x1 r0_1) (View.ld x5 r0_22) (View.ld x6 r0_23) (View.ld x7 r0_23)))
        (expertTerm 7#32 (View.ld x4 r0_24) (View.ld x2 r0_3) (View.ld x1 r0_1) (View.ld x5 r0_25) (View.ld x6 r0_26) (View.ld x7 r0_26))⟩] := rfl

/-- The unpacked block at row `o` and column `512 n + p` holds field `n` of the row's word `p`, when no word of the
    row is negative. -/
theorem unpack_apply (q : Vec Ideal S1x512x512 .i32) (o : Fin 512)
    (hq : ∀ p : Fin 512, 0 ≤ (q (ix3 0 o p) : BitVec 32).toInt) (n : Fin 8) (p : Fin 512) :
    k0_pay3 q (ix2 o ⟨n.val * 512 + p.val, by omega⟩)
      = (FloatOps.sitofp .bf16 (nibble (q (ix3 0 o p)) n.val) : Ideal .bf16) := by
  have same (k : ℕ) (hk : k < 512) (h : k = p.val) : q (ix3 0 o ⟨k, hk⟩) = q (ix3 0 o p) := by
    subst h
    rfl
  pointwise [k0_pay3]
  congr 1
  fin_vals n with hn
  all_goals repeat rw [dif_neg (by omega)]
  all_goals try rw [dif_pos (by omega)]
  all_goals rw [same _ _ (by omega)]
  · rw [low_field, hn]
  iterate 6
    · exact mid_field _ _ n.val (by rw [BitVec.toNat_ofNat]; omega) n.isLt
  · rw [high_field _ (hq p), hn]

/-- One entry of an expert's addend. -/
theorem expertTerm_apply (e : BitVec 32) (q : Vec Ideal S1x512x512 .i32) (idx : Vec Ideal S32x1 .i32)
    (xp : Vec Ideal S32x4096 .bf16) (rs : Vec Ideal S1x32x1 .f32) (z s : Vec Ideal S1x1x512 .f32)
    (t : Fin 32) (o : Fin 512) (hq : ∀ p : Fin 512, 0 ≤ (q (ix3 0 o p) : BitVec 32).toInt) :
    expertTerm e q idx xp rs z s (ix2 t o)
      = ((∑ n : Fin 8, ∑ p : Fin 512, Scalar.select (IntOp.cmpi .eq (idx (ix2 t 0)) e)
            (xp (ix2 t ⟨n.val * 512 + p.val, by omega⟩)
              * (FloatOps.sitofp .bf16 (nibble (q (ix3 0 o p)) n.val) : Ideal .bf16)) (0 : EReal))
          - rs (ix3 0 t 0) * z (ix3 0 0 o)) * s (ix3 0 0 o) := by
  pointwise [expertTerm]
  rw [Fin.sum_univ_tiles 8 512 rfl]
  simp only [unpack_apply q o hq]

end Cert.Quant

end
-- ==== Proof.Reads.lean ====
/- What each input block of the kernel holds at a grid point, in terms of the argument arrays. Grid point `t` works
   on output features `512 t .. 512 t + 511`. -/
module

public import proofs.«01_k».proof.Proof.Block

@[expose] public section

set_option maxRecDepth 16384

noncomputable section

namespace Cert.Quant

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The inputs, read off the launch memory. -/
abbrev argX : FVec Ideal S32x4096 .f32 := m ((c : Thread nD τ).loc main_arg0)
/-- The unquantised weights, read off the launch memory. -/
abbrev argW : FVec Ideal S4096x4096 .f32 := m ((c : Thread nD τ).loc main_arg1)
/-- The scales, read off the launch memory. -/
abbrev argS : FVec Ideal S8x4096x1 .f32 := m ((c : Thread nD τ).loc main_arg2)
/-- The packed weights, read off the launch memory. -/
abbrev argQ : IVec S8x4096x512 32 := m ((c : Thread nD τ).loc main_arg3)
/-- The packed zero points, read off the launch memory. -/
abbrev argZ : IVec S8x512x1 32 := m ((c : Thread nD τ).loc main_arg4)
/-- The tokens' experts, read off the launch memory. -/
abbrev argI : IVec S32 32 := m ((c : Thread nD τ).loc main_arg5)

/-- Which block of its array each window stages at grid point `t`. -/
theorem idx : ∀ t : Fin cfg0.N, win0_0.index t = ![0, 0] ∧ win0_1.index t = ![0, 0] ∧ win0_2.index t = ![0, 0]
    ∧ win0_3.index t = ![t.val, 0] ∧ win0_4.index t = ![0, t.val, 0] ∧ win0_5.index t = ![0, 0, 0]
    ∧ win0_6.index t = ![0, 0, t.val] ∧ win0_7.index t = ![0, 0, t.val] ∧ win0_8.index t = ![0, t.val] :=
  (by decide +kernel : ∀ t : Fin grid0.N, _)

/-- The output feature at column `o` of grid point `t`'s block. -/
def feature (t : Fin cfg0.N) (o : Fin 512) : Fin 4096 :=
  ⟨t.val * 512 + o.val, by have : t.val < 8 := t.isLt; omega⟩

variable (t : Fin cfg0.N)

/-- The plain product on a block reads the inputs and the weights as they are. -/
theorem base_apply (i : Fin 32) (o : Fin 512) :
    k0_pay2 (iblk m c 3 t) (iblk m c 0 t) (ix2 i o) = ∑ k, argX m c (ix2 i k) * argW m c (ix2 (feature t o) k) := by
  pointwise [k0_pay2]
  blk_point [iblk, V, idx t, feature]

/-- The regrouped inputs: column `512 n + p` holds input feature `8 p + n`. -/
theorem xp_apply (i : Fin 32) (n : Fin 8) (p : Fin 512) :
    iblk m c 1 t (ix2 i ⟨n.val * 512 + p.val, by omega⟩) = argX m c (ix2 i ⟨p.val * 8 + n.val, by omega⟩) := by
  blk_simp [iblk, idx t]
  entry_read
  pointwise
  blk_ext [idx t]

/-- The tokens' experts. -/
theorem idx_apply (i : Fin 32) : iblk m c 2 t (ix2 i 0) = argI m c (ix1 i) := by
  blk_simp [iblk, idx t]
  entry_read
  pointwise
  blk_ext [idx t]

/-- The packed weights. -/
theorem q_apply (e : Fin 8) (o p : Fin 512) : iblk m c 4 t (ix3 e o p) = argQ m c (ix3 e (feature t o) p) := by
  blk_simp [iblk]
  blk_ext [V, idx t, feature]

/-- The inputs' sum of each token, kept only at the token's own expert. -/
theorem rs_apply (e : Fin 8) (i : Fin 32) :
    iblk m c 5 t (ix3 0 i e)
      = (FloatOps.uitofp .f32 (IntOp.cmpi .eq (argI m c (ix1 i)) (BitVec.ofNat 32 e.val)) : Ideal .f32)
        * ∑ n : Fin 8, ∑ p : Fin 512, argX m c (ix2 i ⟨p.val * 8 + n.val, by omega⟩) := by
  have at_entry : iblk m c 5 t (ix3 0 i e) = V m c main_v32 (ix3 0 i e) := by
    blk_simp [iblk]
    blk_ext [idx t]
  rw [at_entry]
  entry_read
  pointwise
  rw [Fin.sum_univ_tiles 8 512 rfl]
  refine congrArg _ (Finset.sum_congr rfl fun n _ => Finset.sum_congr rfl fun p _ => ?_)
  blk_ext

/-- The unpacked zero points. -/
theorem z_apply (e : Fin 8) (o : Fin 512) :
    iblk m c 6 t (ix3 e 0 o)
      = (FloatOps.sitofp .f32 (nibble (argZ m c (ix3 e ⟨(feature t o).val / 8, by omega⟩ 0))
          ((feature t o).val % 8)) : Ideal .f32) := by
  have at_entry : iblk m c 6 t (ix3 e 0 o) = V m c main_v18 (ix3 e 0 (feature t o)) := by
    blk_simp [iblk]
    blk_ext [idx t, feature]
  rw [at_entry]
  entry_read
  pointwise
  rw [host_field _ _ (Nat.mod_lt _ (by decide : 0 < 8))]

/-- The scales. -/
theorem s_apply (e : Fin 8) (o : Fin 512) : iblk m c 7 t (ix3 e 0 o) = argS m c (ix3 e (feature t o) 0) := by
  blk_simp [iblk, idx t]
  entry_read
  pointwise
  blk_ext [idx t, feature]

end Cert.Quant

end
-- ==== Proof.RefTerm.lean ====
/- What the reference computes: the plain product plus the sum of the experts' products, each the same
   computation over its own slices, stated once. -/
module

public import proofs.«01_k».proof.Proof.Gen.ReferenceIdeal.Run
public import proofs.«01_k».proof.Proof.Nibble
public import Idealize.ShloMosaic.Lib.Pointwise
public import Idealize.ShloMosaic.Lib.Claim

@[expose] public section

set_option maxRecDepth 16384

noncomputable section

namespace Cert.Quant

open Cert.ReferenceIdeal Cert.ReferenceIdeal.Gen
open Idealize.ShloMosaic Idealize.ShloMosaic.TcCoe Idealize.SL.Sem

/-- The field a dequantised weight is read from, at every position of a packed row. -/
def shifts : IVec S1x1x8 32 :=
  broadcastInDim S1x1x8 ![2] bcast_S8_S1x1x8_2
    (muli (iotaInDim S8 32 0) (broadcastInDim S8 ![] bcast_S_S8 (constantI S_ 32 4#32)))

/-- Expert `e`'s product, from its packed weights `q`, packed zero points `z` and scales `s`: the tokens of other
    experts set to zero, against the dequantised weights. -/
def refTerm (e : BitVec 32) (x : FVec Ideal S32x4096 .f32) (idx : IVec S32 32) (q : IVec S1x4096x512 32)
    (z : IVec S1x512x1 32) (s : FVec Ideal S1x4096x1 .f32) : FVec Ideal S32x4096 .f32 :=
  Host.dotGeneral dot_S32x4096_S4096x4096_S32x4096_1_0_0_1_n_n none
    (mulf x (broadcastInDim S32x4096 ![0, 1] bcast_S32x1_S32x4096_0_1 (broadcastInDim S32x1 ![0] bcast_S32_S32x1_0
      (uitofp .f32 (cmpi .eq idx (broadcastInDim S32 ![] bcast_S_S32 (constantI S_ 32 e)))))))
    (transpose S4096x4096 [1, 0]
      (mulf
        (subf
          (sitofp .f32 (shapeCast _
            (andi (Host.shrsi
                (broadcastInDim S4096x512x8 ![0, 1, 2] bcast_S4096x512x1_S4096x512x8_0_1_2
                  (broadcastInDim S4096x512x1 ![0, 1] bcast_S4096x512_S4096x512x1_0_1
                    (shapeCast _ q shapeCasts_S1x4096x512_S4096x512)))
                (broadcastInDim S4096x512x8 ![0, 1, 2] bcast_S1x1x8_S4096x512x8_0_1_2 shifts))
              (broadcastInDim S4096x512x8 ![] bcast_S_S4096x512x8 (constantI S_ 32 15#32)))
            shapeCasts_S4096x512x8_S4096x4096))
          (broadcastInDim S4096x4096 ![0, 1] bcast_S4096x1_S4096x4096_0_1
            (sitofp .f32 (shapeCast _ (shapeCast _
              (andi (Host.shrsi
                  (broadcastInDim S512x1x8 ![0, 1, 2] bcast_S512x1x1_S512x1x8_0_1_2
                    (broadcastInDim S512x1x1 ![0, 1] bcast_S512x1_S512x1x1_0_1
                      (shapeCast _ z shapeCasts_S1x512x1_S512x1)))
                  (broadcastInDim S512x1x8 ![0, 1, 2] bcast_S1x1x8_S512x1x8_0_1_2 shifts))
                (broadcastInDim S512x1x8 ![] bcast_S_S512x1x8 (constantI S_ 32 15#32)))
              shapeCasts_S512x1x8_S512x8) shapeCasts_S512x8_S4096x1))))
        (broadcastInDim S4096x4096 ![0, 1] bcast_S4096x1_S4096x4096_0_1
          (shapeCast _ s shapeCasts_S1x4096x1_S4096x1)))
      transposes_S4096x4096_S4096x4096_1_0)

/-- One entry of an expert's product. -/
theorem refTerm_apply (e : BitVec 32) (x : FVec Ideal S32x4096 .f32) (idx : IVec S32 32) (q : IVec S1x4096x512 32)
    (z : IVec S1x512x1 32) (s : FVec Ideal S1x4096x1 .f32) (t : Fin 32) (o : Fin 4096) :
    refTerm e x idx q z s (ix2 t o)
      = ∑ p : Fin 512, ∑ n : Fin 8, x (ix2 t ⟨p.val * 8 + n.val, by omega⟩)
          * (FloatOps.uitofp .f32 (IntOp.cmpi .eq (idx (ix1 t)) e) : Ideal .f32)
          * (((FloatOps.sitofp .f32 (nibble (q (ix3 0 o p)) n.val) : Ideal .f32)
              - (FloatOps.sitofp .f32 (nibble (z (ix3 0 ⟨o.val / 8, by omega⟩ 0)) (o.val % 8)) : Ideal .f32))
            * s (ix3 0 o 0)) := by
  pointwise [refTerm, shifts]
  rw [Fin.sum_univ_tiles 512 8 rfl]
  refine Finset.sum_congr rfl fun p _ => Finset.sum_congr rfl fun n _ => ?_
  have hd : (p.val * 8 + n.val) / 8 = p.val := by omega
  have hm : (p.val * 8 + n.val) % 8 = n.val := by omega
  simp only [hd, hm, host_field _ _ n.isLt, host_field _ _ (Nat.mod_lt o.val (by decide : 0 < 8))]

/-- Expert `e`'s contribution to the entry of token `t` and output feature `o`, from the argument arrays: the
    token's inputs, zero unless the token is the expert's, against the dequantised weights. -/
def expertAt (x : FVec Ideal S32x4096 .f32) (s : FVec Ideal S8x4096x1 .f32) (q : IVec S8x4096x512 32)
    (z : IVec S8x512x1 32) (idx : IVec S32 32) (e : Fin 8) (t : Fin 32) (o : Fin 4096) : EReal :=
  ∑ p : Fin 512, ∑ n : Fin 8, x (ix2 t ⟨p.val * 8 + n.val, by omega⟩)
    * (FloatOps.uitofp .f32 (IntOp.cmpi .eq (idx (ix1 t)) (BitVec.ofNat 32 e.val)) : Ideal .f32)
    * (((FloatOps.sitofp .f32 (nibble (q (ix3 e o p)) n.val) : Ideal .f32)
        - (FloatOps.sitofp .f32 (nibble (z (ix3 e ⟨o.val / 8, by omega⟩ 0)) (o.val % 8)) : Ideal .f32))
      * s (ix3 e o 0))

/-- The sum of the experts' products, as the reference accumulates it from zero. -/
def delta (x : FVec Ideal S32x4096 .f32) (s : FVec Ideal S8x4096x1 .f32) (q : IVec S8x4096x512 32)
    (z : IVec S8x512x1 32) (idx : IVec S32 32) : FVec Ideal S32x4096 .f32 :=
  addf (addf (addf (addf (addf (addf (addf (addf
    (broadcastInDim S32x4096 ![] bcast_S_S32x4096 (constant S_ .f32 0x00000000#32))
    (refTerm 0#32 x idx (extractStridedSlice S1x4096x512 ![0, 0, 0] q slices_S8x4096x512_S1x4096x512_0_0_0) (extractStridedSlice S1x512x1 ![0, 0, 0] z slices_S8x512x1_S1x512x1_0_0_0) (extractStridedSlice S1x4096x1 ![0, 0, 0] s slices_S8x4096x1_S1x4096x1_0_0_0)))
    (refTerm 1#32 x idx (extractStridedSlice S1x4096x512 ![1, 0, 0] q slices_S8x4096x512_S1x4096x512_1_0_0) (extractStridedSlice S1x512x1 ![1, 0, 0] z slices_S8x512x1_S1x512x1_1_0_0) (extractStridedSlice S1x4096x1 ![1, 0, 0] s slices_S8x4096x1_S1x4096x1_1_0_0)))
    (refTerm 2#32 x idx (extractStridedSlice S1x4096x512 ![2, 0, 0] q slices_S8x4096x512_S1x4096x512_2_0_0) (extractStridedSlice S1x512x1 ![2, 0, 0] z slices_S8x512x1_S1x512x1_2_0_0) (extractStridedSlice S1x4096x1 ![2, 0, 0] s slices_S8x4096x1_S1x4096x1_2_0_0)))
    (refTerm 3#32 x idx (extractStridedSlice S1x4096x512 ![3, 0, 0] q slices_S8x4096x512_S1x4096x512_3_0_0) (extractStridedSlice S1x512x1 ![3, 0, 0] z slices_S8x512x1_S1x512x1_3_0_0) (extractStridedSlice S1x4096x1 ![3, 0, 0] s slices_S8x4096x1_S1x4096x1_3_0_0)))
    (refTerm 4#32 x idx (extractStridedSlice S1x4096x512 ![4, 0, 0] q slices_S8x4096x512_S1x4096x512_4_0_0) (extractStridedSlice S1x512x1 ![4, 0, 0] z slices_S8x512x1_S1x512x1_4_0_0) (extractStridedSlice S1x4096x1 ![4, 0, 0] s slices_S8x4096x1_S1x4096x1_4_0_0)))
    (refTerm 5#32 x idx (extractStridedSlice S1x4096x512 ![5, 0, 0] q slices_S8x4096x512_S1x4096x512_5_0_0) (extractStridedSlice S1x512x1 ![5, 0, 0] z slices_S8x512x1_S1x512x1_5_0_0) (extractStridedSlice S1x4096x1 ![5, 0, 0] s slices_S8x4096x1_S1x4096x1_5_0_0)))
    (refTerm 6#32 x idx (extractStridedSlice S1x4096x512 ![6, 0, 0] q slices_S8x4096x512_S1x4096x512_6_0_0) (extractStridedSlice S1x512x1 ![6, 0, 0] z slices_S8x512x1_S1x512x1_6_0_0) (extractStridedSlice S1x4096x1 ![6, 0, 0] s slices_S8x4096x1_S1x4096x1_6_0_0)))
    (refTerm 7#32 x idx (extractStridedSlice S1x4096x512 ![7, 0, 0] q slices_S8x4096x512_S1x4096x512_7_0_0) (extractStridedSlice S1x512x1 ![7, 0, 0] z slices_S8x512x1_S1x512x1_7_0_0) (extractStridedSlice S1x4096x1 ![7, 0, 0] s slices_S8x4096x1_S1x4096x1_7_0_0))

/-- One entry of the accumulated sum. -/
theorem delta_apply (x : FVec Ideal S32x4096 .f32) (s : FVec Ideal S8x4096x1 .f32) (q : IVec S8x4096x512 32)
    (z : IVec S8x512x1 32) (idx : IVec S32 32) (t : Fin 32) (o : Fin 4096) :
    delta x s q z idx (ix2 t o)
      = expertAt x s q z idx 0 t o + expertAt x s q z idx 1 t o + expertAt x s q z idx 2 t o
        + expertAt x s q z idx 3 t o + expertAt x s q z idx 4 t o + expertAt x s q z idx 5 t o
        + expertAt x s q z idx 6 t o + expertAt x s q z idx 7 t o := by
  pointwise [delta]
  simp only [refTerm_apply]
  pointwise
  rfl

/-- The run's accumulated term is `delta` of the arguments. -/
theorem delta_eq (V0 : Valuation τ sig (Elt Ideal)) :
    Value.res_main_v354 V0 = delta (V0 (Proc.devRef .tc main_arg0)) (V0 (Proc.devRef .tc main_arg2))
      (V0 (Proc.devRef .tc main_arg3)) (V0 (Proc.devRef .tc main_arg4)) (V0 (Proc.devRef .tc main_arg5)) := rfl

/-- The reference's result as a function of the argument arrays. -/
def output (x : FVec Ideal S32x4096 .f32) (w : FVec Ideal S4096x4096 .f32) (s : FVec Ideal S8x4096x1 .f32)
    (q : IVec S8x4096x512 32) (z : IVec S8x512x1 32) (idx : IVec S32 32) : FVec Ideal S32x4096 .f32 :=
  addf (Host.dotGeneral dot_S32x4096_S4096x4096_S32x4096_1_0_0_1_n_n none x
    (transpose S4096x4096 [1, 0] w transposes_S4096x4096_S4096x4096_1_0)) (delta x s q z idx)

/-- One entry of the reference's result: the plain product plus the experts' contributions. -/
theorem output_apply (x : FVec Ideal S32x4096 .f32) (w : FVec Ideal S4096x4096 .f32) (s : FVec Ideal S8x4096x1 .f32)
    (q : IVec S8x4096x512 32) (z : IVec S8x512x1 32) (idx : IVec S32 32) (t : Fin 32) (o : Fin 4096) :
    output x w s q z idx (ix2 t o)
      = ∑ k, x (ix2 t k) * w (ix2 o k)
        + (expertAt x s q z idx 0 t o + expertAt x s q z idx 1 t o + expertAt x s q z idx 2 t o
          + expertAt x s q z idx 3 t o + expertAt x s q z idx 4 t o + expertAt x s q z idx 5 t o
          + expertAt x s q z idx 6 t o + expertAt x s q z idx 7 t o) := by
  pointwise [output]
  rw [delta_apply]

end Cert.Quant

end
-- ==== Proof.Expert.lean ====
/- One expert's contribution to one entry of the output, the two ways it is written, and that they agree. -/
module

public import Idealize.ShloMosaic.Lib.Pointwise

@[expose] public section

noncomputable section

namespace Cert.Quant

open Idealize.ShloMosaic

/-- A word converted to an extended real is a real number. -/
theorem sitofp_real (φ : FTy) (w : BitVec 32) :
    (FloatOps.sitofp φ w : Ideal φ) = (((w.toInt : ℝ)) : EReal) := rfl

/-- The bit 1 converts to one. -/
theorem uitofp_one (φ : FTy) : (FloatOps.uitofp φ 1#1 : Ideal φ) = (1 : EReal) := by
  show (((((1#1 : BitVec 1).toNat : ℕ) : ℝ)) : EReal) = 1
  simp

/-- The bit 0 converts to zero. -/
theorem uitofp_zero (φ : FTy) : (FloatOps.uitofp φ 0#1 : Ideal φ) = (0 : EReal) := by
  show (((((0#1 : BitVec 1).toNat : ℕ) : ℝ)) : EReal) = 0
  simp

/-- A finite sum of real numbers, taken in the extended reals, is the real sum. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- One expert, one token, one output feature. `x p n` is the token's input feature `8 p + n`, `u p n` the
    packed weight facing it, `z` the zero point, `s` the scale, and `hot` the bit saying whether the token is
    this expert's. Multiplying the inputs by the raw packed weights first, taking the inputs' sum times the zero
    point away, and scaling at the end gives what dequantising every weight first does, when the inputs and the
    scale are finite. -/
theorem expert_eq (hot : BitVec 1) (x : Fin 512 → Fin 8 → EReal) (u : Fin 512 → Fin 8 → BitVec 32)
    (z : BitVec 32) (s : EReal) (hx : ∀ p n, x p n ≠ ⊤ ∧ x p n ≠ ⊥) (hs : s ≠ ⊤ ∧ s ≠ ⊥) :
    ((∑ n, ∑ p, Scalar.select hot (x p n * (FloatOps.sitofp .bf16 (u p n) : Ideal .bf16)) (0 : EReal))
        - (FloatOps.uitofp .f32 hot : Ideal .f32) * (∑ n, ∑ p, x p n) * (FloatOps.sitofp .f32 z : Ideal .f32)) * s
      = ∑ p, ∑ n, x p n * (FloatOps.uitofp .f32 hot : Ideal .f32)
          * (((FloatOps.sitofp .f32 (u p n) : Ideal .f32) - (FloatOps.sitofp .f32 z : Ideal .f32)) * s : EReal) := by
  obtain ⟨a, rfl⟩ : ∃ a : Fin 512 → Fin 8 → ℝ, x = fun p n => ((a p n : ℝ) : EReal) :=
    ⟨fun p n => (x p n).toReal, by
      funext p n
      exact (EReal.coe_toReal (hx p n).1 (hx p n).2).symm⟩
  obtain ⟨b, rfl⟩ : ∃ b : ℝ, s = (b : EReal) := ⟨s.toReal, (EReal.coe_toReal hs.1 hs.2).symm⟩
  simp only [sitofp_real]
  rcases BitVec.eq_zero_or_eq_one hot with rfl | rfl
  · simp only [uitofp_zero, zero_mul, mul_zero, Finset.sum_const_zero, show ∀ v w : EReal, Scalar.select 0#1 v w = w from
      fun _ _ => rfl, sub_zero]
  · simp only [uitofp_one, one_mul, mul_one, show ∀ v w : EReal, Scalar.select 1#1 v w = v from fun _ _ => rfl,
      ← EReal.coe_mul, ← EReal.coe_sub, ← coe_sum]
    rw [EReal.coe_eq_coe_iff, Finset.sum_comm, Finset.sum_comm (f := fun n p => a p n), Finset.sum_mul,
      ← Finset.sum_sub_distrib, Finset.sum_mul]
    refine Finset.sum_congr rfl fun p _ => ?_
    rw [Finset.sum_mul, ← Finset.sum_sub_distrib, Finset.sum_mul]
    exact Finset.sum_congr rfl fun n _ => by ring

end Cert.Quant

end
-- ==== Proof.KernelValue.lean ====
/- The array the kernel leaves in its result: block by block it is the reference's function of the arguments. -/
module

public import proofs.«01_k».proof.Proof.Reads
public import proofs.«01_k».proof.Proof.RefTerm
public import proofs.«01_k».proof.Proof.Expert

@[expose] public section

set_option maxRecDepth 16384

noncomputable section

namespace Cert.Quant

open Cert.KernelIdeal Cert.KernelIdeal.Gen
open Idealize.ShloMosaic Idealize.ShloMosaic.TcCoe Idealize.SL.Sem
open Idealize.ShloMosaic.Pipeline (Dat)

/-- Loading expert `e`'s slice of the packed block. -/
theorem ld_words (x : Vec Ideal S8x512x512 .i32) (e : Fin 8)
    (h : ∀ i, (![e.val, 0, 0] : Fin 3 → ℕ) i + S1x512x512.size i ≤ S8x512x512.size i) (o p : Fin 512) :
    View.ld x (Rect.unit (s := S8x512x512) ![e.val, 0, 0] S1x512x512.size h) (ix3 0 o p) = x (ix3 e o p) := by
  show x _ = x _
  blk_ext [LoadRect.idx, Rect.unit]
  all_goals simp

/-- Loading expert `e`'s column of the tokens' sums. -/
theorem ld_sums (x : Vec Ideal S1x32x8 .f32) (e : Fin 8)
    (h : ∀ i, (![0, 0, e.val] : Fin 3 → ℕ) i + S1x32x1.size i ≤ S1x32x8.size i) (i : Fin 32) :
    View.ld x (Rect.unit (s := S1x32x8) ![0, 0, e.val] S1x32x1.size h) (ix3 0 i 0) = x (ix3 0 i e) := by
  show x _ = x _
  blk_ext [LoadRect.idx, Rect.unit]
  all_goals simp

/-- Loading expert `e`'s row of per-feature numbers. -/
theorem ld_row (x : Vec Ideal S8x1x512 .f32) (e : Fin 8)
    (h : ∀ i, (![e.val, 0, 0] : Fin 3 → ℕ) i + S1x1x512.size i ≤ S8x1x512.size i) (o : Fin 512) :
    View.ld x (Rect.unit (s := S8x1x512) ![e.val, 0, 0] S1x1x512.size h) (ix3 0 0 o) = x (ix3 e 0 o) := by
  show x _ = x _
  blk_ext [LoadRect.idx, Rect.unit]
  all_goals simp

variable (m : (ℓ : Loc nD τ sig) → Buf (Elt Ideal) ℓ) (c : Dev nD)

/-- What the equality asks of the arguments: finite inputs and scales, no negative packed word. -/
structure Tame : Prop where
  /-- Every input is a finite number. -/
  input : ∀ i, argX m c i ≠ ⊤ ∧ argX m c i ≠ ⊥
  /-- Every scale is a finite number. -/
  scale : ∀ i, argS m c i ≠ ⊤ ∧ argS m c i ≠ ⊥
  /-- No packed word is negative. -/
  word : ∀ i, 0 ≤ (argQ m c i : BitVec 32).toInt

variable (t : Fin cfg0.N)

/-- On every block, expert `e`'s addend is the reference's contribution of that expert. -/
theorem addend_at (tame : Tame m c) (e : Fin 8)
    (hq : ∀ i, (![e.val, 0, 0] : Fin 3 → ℕ) i + S1x512x512.size i ≤ S8x512x512.size i)
    (hr : ∀ i, (![0, 0, e.val] : Fin 3 → ℕ) i + S1x32x1.size i ≤ S1x32x8.size i)
    (hz : ∀ i, (![e.val, 0, 0] : Fin 3 → ℕ) i + S1x1x512.size i ≤ S8x1x512.size i) (i : Fin 32) (o : Fin 512) :
    expertTerm (BitVec.ofNat 32 e.val)
        (View.ld (iblk m c 4 t) (Rect.unit (s := S8x512x512) ![e.val, 0, 0] S1x512x512.size hq))
        (iblk m c 2 t) (iblk m c 1 t)
        (View.ld (iblk m c 5 t) (Rect.unit (s := S1x32x8) ![0, 0, e.val] S1x32x1.size hr))
        (View.ld (iblk m c 6 t) (Rect.unit (s := S8x1x512) ![e.val, 0, 0] S1x1x512.size hz))
        (View.ld (iblk m c 7 t) (Rect.unit (s := S8x1x512) ![e.val, 0, 0] S1x1x512.size hz)) (ix2 i o)
      = expertAt (argX m c) (argS m c) (argQ m c) (argZ m c) (argI m c) e i (feature t o) := by
  have word (p : Fin 512) :
      View.ld (iblk m c 4 t) (Rect.unit (s := S8x512x512) ![e.val, 0, 0] S1x512x512.size hq) (ix3 0 o p)
        = argQ m c (ix3 e (feature t o) p) := (ld_words _ e hq o p).trans (q_apply m c t e o p)
  rw [expertTerm_apply _ _ _ _ _ _ _ i o (fun p => by rw [word]; exact tame.word _)]
  rw [ld_sums, ld_row, ld_row, rs_apply, z_apply, s_apply]
  simp only [word, xp_apply, idx_apply]
  exact expert_eq _ (fun p n => argX m c (ix2 i ⟨p.val * 8 + n.val, by omega⟩))
    (fun p n => nibble (argQ m c (ix3 e (feature t o) p)) n.val) _ _ (fun p n => tame.input _) (tame.scale _)

/-- Adding eight terms one by one to a base adds their sum. -/
theorem add_eight {b b' t0 t1 t2 t3 t4 t5 t6 t7 e0 e1 e2 e3 e4 e5 e6 e7 : EReal} (hb : b = b') (h0 : t0 = e0)
    (h1 : t1 = e1) (h2 : t2 = e2) (h3 : t3 = e3) (h4 : t4 = e4) (h5 : t5 = e5) (h6 : t6 = e6) (h7 : t7 = e7) :
    b + t0 + t1 + t2 + t3 + t4 + t5 + t6 + t7 = b' + (e0 + e1 + e2 + e3 + e4 + e5 + e6 + e7) := by
  subst hb h0 h1 h2 h3 h4 h5 h6 h7
  simp only [add_assoc]

/-- The result array is the reference's function of the arguments. -/
theorem final (tame : Tame m c) :
    (dats m 0 c).arrAt 8 cfg0.N
      = output (argX m c) (argW m c) (argS m c) (argQ m c) (argZ m c) (argI m c) := by
  refine (dats m 0 c).arrAt_eq_of_covers 8 _ (by decide +kernel) fun t _ y => ?_
  blk_simp
  rw [after0_8, out_eq]
  frame_out
  idx_vars y
  pointwise
  have place : ((View.whole main_v33).slice (win0_8.rect t)).emb (ix2 y0 y1) = ix2 y0 (feature t y1) := by
    blk_ext [idx t, feature]
  rw [place, output_apply]
  exact add_eight (base_apply m c t y0 y1) (addend_at m c t tame 0 _ _ _ y0 y1) (addend_at m c t tame 1 _ _ _ y0 y1)
    (addend_at m c t tame 2 _ _ _ y0 y1) (addend_at m c t tame 3 _ _ _ y0 y1) (addend_at m c t tame 4 _ _ _ y0 y1)
    (addend_at m c t tame 5 _ _ _ y0 y1) (addend_at m c t tame 6 _ _ _ y0 y1) (addend_at m c t tame 7 _ _ _ y0 y1)

end Cert.Quant

end
-- ==== Proof.Precondition.lean ====
/- What the precondition says of the arguments: finite inputs and scales, no negative packed word. -/
module

public import proofs.«01_k».proof.Defs
public import proofs.«01_k».proof.Proof.KernelValue

@[expose] public section

noncomputable section

namespace Cert.Quant

open Idealize.ShloMosaic Idealize.ShloMosaic.TcCoe Idealize.SL.Sem

/-- The predicate's scalars spread over each of its arrays. -/
theorem pre_facts : Cert.Pre_finite_nonneg.Facts where
  bcast_S_S32x4096 := by decide
  bcast_S_S8x4096x1 := by decide
  bcast_S_S8x4096x512 := by decide

/-- An extended real whose absolute value compares below infinity is finite. -/
theorem finite_of_abs_lt (x : EReal) (h : Ideal.cmp .olt (max x (-x)) (Ideal.ofBits .f32 0x7F800000#32) = 1#1) :
    x ≠ ⊤ ∧ x ≠ ⊥ := by
  have top : Ideal.ofBits .f32 0x7F800000#32 = ⊤ := by simp [Ideal.ofBits, Ideal.ieee]
  rw [top] at h
  constructor <;> rintro rfl <;> simp [Ideal.cmp] at h

/-- A word that compares at least zero is not negative. -/
theorem nonneg_of_sge (w : BitVec 32) (h : IntOp.cmpi .sge w 0#32 = 1#1) : 0 ≤ w.toInt := by
  by_contra hn
  simp [IntOp.cmpi, BitVec.sle, hn] at h

/-- The precondition, read off the argument arrays. -/
theorem tame_of_pre [Cert.Pre_finite_nonneg.Facts]
    (m : (ℓ : Loc Cert.KernelIdeal.nD Cert.KernelIdeal.τ Cert.KernelIdeal.sig) → Buf (Elt Ideal) ℓ)
    (h : Cert.Pre_KernelIdeal_finite_nonneg m) (c : Dev Cert.KernelIdeal.nD) : Tame m c where
  input i := finite_of_abs_lt _ (congrFun (h c).1 i)
  scale i := finite_of_abs_lt _ (congrFun (h c).2.1 i)
  word i := nonneg_of_sge _ (congrFun (h c).2.2 i)

end Cert.Quant

end
-- ==== Proof.lean ====
/- The certificate: the two kernels run and keep their arguments, the reference likewise, and under the precondition
   kernel and reference end with the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Precondition
public import Idealize.ShloMosaic.Lib.Claim
public import Idealize.ShloMosaic.Adequacy
public import Idealize.ShloMosaic.Init

@[expose] public section

noncomputable section

namespace Cert.Proof

open Idealize.ShloMosaic Idealize.SL.Sem

/-- The side conditions the precondition states. -/
instance : Cert.Pre_finite_nonneg.Facts := Cert.Quant.pre_facts

/-- The reference runs from every memory and leaves its arguments and every counter as they were. -/
theorem reference_quiescent : Cert.quiescent_ReferenceIdeal := by
  intro m g _
  exact (θ_run _ _ _).mono (fun r h => ⟨fun c => (h c).2, sem_eq_zero_of_no_sems (by decide) _⟩)
    (Cert.ReferenceIdeal.Value.run m g)

/-- Under the precondition the kernel and the reference end with the same result. -/
theorem algebraic : Cert.algebraic_KernelIdeal_ReferenceIdeal_pre_finite_nonneg := by
  pair_intro
  · run_from Cert.KernelIdeal.Gen.run_main m g
  · run_from Cert.ReferenceIdeal.Value.run m' g'
    rw [Cert.Quant.delta_eq]
    obtain ⟨h0, h1, h2, h3, h4, h5⟩ := hagree c
    have same : Cert.Quant.delta (m' (c.tc.loc Cert.ReferenceIdeal.main_arg0)) (m' (c.tc.loc Cert.ReferenceIdeal.main_arg2))
        (m' (c.tc.loc Cert.ReferenceIdeal.main_arg3)) (m' (c.tc.loc Cert.ReferenceIdeal.main_arg4))
        (m' (c.tc.loc Cert.ReferenceIdeal.main_arg5))
      = Cert.Quant.delta (Cert.Quant.argX m c) (Cert.Quant.argS m c) (Cert.Quant.argQ m c) (Cert.Quant.argZ m c)
          (Cert.Quant.argI m c) := by rw [h0, h2, h3, h4, h5]
    exact (congrArg _ same).trans (Cert.Quant.final m c (Cert.Quant.tame_of_pre m hpre c)).symm

/-- Every claim of the certificate. -/
theorem claim : Cert.Claim :=
  ⟨Cert.Kernel.Gen.facts, Cert.KernelIdeal.Gen.facts, Cert.ReferenceIdeal.Gen.facts, Cert.Quant.pre_facts,
    fun m g _ => Cert.Kernel.Gen.frame m g, fun m g _ => Cert.KernelIdeal.Gen.frame m g,
    fun m g _ => Cert.KernelIdeal.Gen.frame m g, reference_quiescent, fun m g _ => reference_quiescent m g trivial,
    trivial, algebraic⟩

end Cert.Proof

end
